-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x768x32x32 : Shape := ⟨4, ![16, 768, 32, 32]⟩
abbrev S50x384 : Shape := ⟨2, ![50, 384]⟩
abbrev S16x32x32x768 : Shape := ⟨4, ![16, 32, 32, 768]⟩
abbrev S32x32x768 : Shape := ⟨3, ![32, 32, 768]⟩
abbrev S48 : Shape := ⟨1, ![48]⟩
abbrev S32x384 : Shape := ⟨2, ![32, 384]⟩
abbrev S1x32x384 : Shape := ⟨3, ![1, 32, 384]⟩
abbrev S32x32x384 : Shape := ⟨3, ![32, 32, 384]⟩
abbrev S1 : Shape := ⟨1, ![1]⟩
abbrev S_ : Shape := ⟨0, ![]⟩
abbrev S1x32x32x384 : Shape := ⟨4, ![1, 32, 32, 384]⟩
abbrev S32x256 : Shape := ⟨2, ![32, 256]⟩
abbrev S32x1x256 : Shape := ⟨3, ![32, 1, 256]⟩
abbrev S32x32x256 : Shape := ⟨3, ![32, 32, 256]⟩
abbrev S1x32x32x256 : Shape := ⟨4, ![1, 32, 32, 256]⟩
abbrev S32x128 : Shape := ⟨2, ![32, 128]⟩
abbrev S32x1x128 : Shape := ⟨3, ![32, 1, 128]⟩
abbrev S32x32x128 : Shape := ⟨3, ![32, 32, 128]⟩
abbrev S1x32x32x128 : Shape := ⟨4, ![1, 32, 32, 128]⟩

abbrev nBuf : Space → Nat
  | .hbm => 5
  | .vmem => 3
  | .smem => 0
  | _ => 0

abbrev bufTy : (tb : Table) → Fin (tcTables nBuf tb) → BufTy
  | .hbm, ⟨0, _⟩ => ⟨S16x768x32x32, .f32⟩
  | .hbm, ⟨1, _⟩ => ⟨S50x384, .f32⟩
  | .hbm, ⟨2, _⟩ => ⟨S50x384, .f32⟩
  | .hbm, ⟨3, _⟩ => ⟨S16x32x32x768, .f32⟩
  | .hbm, ⟨4, _⟩ => ⟨S16x768x32x32, .f32⟩
  | .local _ .vmem, ⟨0, _⟩ => ⟨S50x384, .f32⟩
  | .local _ .vmem, ⟨1, _⟩ => ⟨S50x384, .f32⟩
  | .local _ .vmem, ⟨2, _⟩ => ⟨S32x32x768, .f32⟩
  | _, _ => ⟨S16x768x32x32, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S50x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S50x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16x768x32x32 : Shape := ⟨4, ![16, 768, 32, 32]⟩
abbrev S50x384 : Shape := ⟨2, ![50, 384]⟩
abbrev S32 : Shape := ⟨1, ![32]⟩
abbrev S_ : Shape := ⟨0, ![]⟩
abbrev S32x1 : Shape := ⟨2, ![32, 1]⟩
abbrev S1 : Shape := ⟨1, ![1]⟩
abbrev S1x1 : Shape := ⟨2, ![1, 1]⟩
abbrev S32x384 : Shape := ⟨2, ![32, 384]⟩
abbrev S1x32x384 : Shape := ⟨3, ![1, 32, 384]⟩
abbrev S32x32x384 : Shape := ⟨3, ![32, 32, 384]⟩
abbrev S32x1x384 : Shape := ⟨3, ![32, 1, 384]⟩
abbrev S32x32x768 : Shape := ⟨3, ![32, 32, 768]⟩
abbrev S768x32x32 : Shape := ⟨3, ![768, 32, 32]⟩
abbrev S1x768x32x32 : Shape := ⟨4, ![1, 768, 32, 32]⟩

abbrev nBuf : Space → Nat
  | .hbm => 59
  | .vmem => 0
  | .smem => 0
  | _ => 0

abbrev bufTy : (tb : Table) → Fin (tcTables nBuf tb) → BufTy
  | .hbm, ⟨0, _⟩ => ⟨S16x768x32x32, .f32⟩
  | .hbm, ⟨1, _⟩ => ⟨S50x384, .f32⟩
  | .hbm, ⟨2, _⟩ => ⟨S50x384, .f32⟩
  | .hbm, ⟨3, _⟩ => ⟨S32, .i32⟩
  | .hbm, ⟨4, _⟩ => ⟨S32, .i32⟩
  | .hbm, ⟨5, _⟩ => ⟨S_, .i32⟩
  | .hbm, ⟨6, _⟩ => ⟨S32, .i32⟩
  | .hbm, ⟨7, _⟩ => ⟨S32, .i1⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S32, .i32⟩
  | .hbm, ⟨12, _⟩ => ⟨S32x1, .i32⟩
  | .hbm, ⟨13, _⟩ => ⟨S1, .i32⟩
  | .hbm, ⟨14, _⟩ => ⟨S_, .i32⟩
  | .hbm, ⟨15, _⟩ => ⟨S32x1, .i32⟩
  | .hbm, ⟨16, _⟩ => ⟨S32x1, .i1⟩
  | .hbm, ⟨17, _⟩ => ⟨S1x1, .i32⟩
  | .hbm, ⟨18, _⟩ => ⟨S32x1, .i32⟩
  | .hbm, ⟨19, _⟩ => ⟨S32x1, .i1⟩
  | .hbm, ⟨20, _⟩ => ⟨S32x1, .i1⟩
  | .hbm, ⟨21, _⟩ => ⟨S_, .i1⟩
  | .hbm, ⟨22, _⟩ => ⟨S32, .i1⟩
  | .hbm, ⟨23, _⟩ => ⟨S32x384, .f32⟩
  | .hbm, ⟨24, _⟩ => ⟨S32x384, .i1⟩
  | .hbm, ⟨25, _⟩ => ⟨S_, .f32⟩
  | .hbm, ⟨26, _⟩ => ⟨S32x384, .f32⟩
  | .hbm, ⟨27, _⟩ => ⟨S32x384, .f32⟩
  | .hbm, ⟨28, _⟩ => ⟨S_, .i32⟩
  | .hbm, ⟨29, _⟩ => ⟨S32, .i32⟩
  | .hbm, ⟨30, _⟩ => ⟨S32, .i1⟩
  | .hbm, ⟨31, _⟩ => ⟨S_, .i32⟩
  | .hbm, ⟨32, _⟩ => ⟨S32, .i32⟩
  | .hbm, ⟨33, _⟩ => ⟨S32, .i32⟩
  | .hbm, ⟨34, _⟩ => ⟨S32, .i32⟩
  | .hbm, ⟨35, _⟩ => ⟨S32x1, .i32⟩
  | .hbm, ⟨36, _⟩ => ⟨S1, .i32⟩
  | .hbm, ⟨37, _⟩ => ⟨S_, .i32⟩
  | .hbm, ⟨38, _⟩ => ⟨S32x1, .i32⟩
  | .hbm, ⟨39, _⟩ => ⟨S32x1, .i1⟩
  | .hbm, ⟨40, _⟩ => ⟨S1x1, .i32⟩
  | .hbm, ⟨41, _⟩ => ⟨S32x1, .i32⟩
  | .hbm, ⟨42, _⟩ => ⟨S32x1, .i1⟩
  | .hbm, ⟨43, _⟩ => ⟨S32x1, .i1⟩
  | .hbm, ⟨44, _⟩ => ⟨S_, .i1⟩
  | .hbm, ⟨45, _⟩ => ⟨S32, .i1⟩
  | .hbm, ⟨46, _⟩ => ⟨S32x384, .f32⟩
  | .hbm, ⟨47, _⟩ => ⟨S32x384, .i1⟩
  | .hbm, ⟨48, _⟩ => ⟨S_, .f32⟩
  | .hbm, ⟨49, _⟩ => ⟨S32x384, .f32⟩
  | .hbm, ⟨50, _⟩ => ⟨S32x384, .f32⟩
  | .hbm, ⟨51, _⟩ => ⟨S1x32x384, .f32⟩
  | .hbm, ⟨52, _⟩ => ⟨S32x32x384, .f32⟩
  | .hbm, ⟨53, _⟩ => ⟨S32x1x384, .f32⟩
  | .hbm, ⟨54, _⟩ => ⟨S32x32x384, .f32⟩
  | .hbm, ⟨55, _⟩ => ⟨S32x32x768, .f32⟩
  | .hbm, ⟨56, _⟩ => ⟨S768x32x32, .f32⟩
  | .hbm, ⟨57, _⟩ => ⟨S1x768x32x32, .f32⟩
  | .hbm, ⟨58, _⟩ => ⟨S16x768x32x32, .f32⟩
  | _, _ => ⟨S16x768x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v2 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v3 : Ref sig .tc := ⟨.hbm, 50, rfl⟩
abbrev main_v4 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩

abbrev nD : Nat := 1
abbrev τ : Topo := Topo.v7x

variable {F : FTy → Type} [FloatOps F]
-- ==== Proof.Body.lean ====
/-
  The kernel of the position embedding, read as three batches of copies.

  The body keeps one batch row's worth of output, a 32 x 32 x 768 block, in fast memory, and
  splits its channels into three BANDS: 0..383, 384..639 and 640..767. For each band it fills the
  band of the block and then starts sixteen copies of the filled band, one into each batch row of
  the output, every copy on a semaphore of its own. After all forty-eight copies are started it
  waits for them.

  This module names the ends of those copies uniformly in the band and the batch row, and states
  the body as a program built by recursion: fill band, start sixteen copies, three times over, and
  then wait for sixteen rows of three copies.
-/
module

public import proofs.«01_k».proof.Proof.Gen.KernelIdeal.Frame
public import proofs.«01_k».proof.Proof.Gen.KernelIdeal.Skeleton

@[expose] public section

set_option maxRecDepth 16384

noncomputable section

namespace Cert.KernelIdeal.Bands

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The bands -/

/-- The first channel of each band. -/
abbrev off (k : Fin 3) : ℕ := ![0, 384, 640] k

/-- The number of channels of each band. -/
abbrev wid (k : Fin 3) : ℕ := ![384, 256, 128] k

/-- The shape of one band of a batch row. -/
abbrev Band (k : Fin 3) : Shape := ⟨3, ![32, 32, wid k]⟩

/-- The shape of one band of a batch row, with the batch axis kept. -/
abbrev Band1 (k : Fin 3) : Shape := ⟨4, ![1, 32, 32, wid k]⟩

/-- A band lies inside the 768 channels of the block. -/
theorem blk_inb (k : Fin 3) : ∀ a, (![0, 0, off k] : Fin 3 → ℕ) a + (Band k).size a ≤ S32x32x768.size a := by
  revert k; decide

/-- A band of a batch row lies inside the output. -/
theorem out_inb (k : Fin 3) (i : Fin 16) :
    ∀ a, (![i.val, 0, 0, off k] : Fin 4 → ℕ) a + (Band1 k).size a ≤ S16x32x32x768.size a := by
  revert k i; decide

/-- Each semaphore is one of the forty-eight. -/
theorem sem_inb (k : Fin 3) (i : Fin 16) : ∀ a, (![16 * k.val + i.val] : Fin 1 → ℕ) a + S1.size a ≤ S48.size a := by
  revert k i; decide

/-- A band has elements. -/
theorem band_pos (k : Fin 3) : 0 < (Band k).numel := by
  revert k; decide

/-- Dropping the batch axis of a band drops an axis of size one. -/
theorem band_squeezes (k : Fin 3) : (Band1 k).Squeezes (Band k) := by
  revert k; decide

/-- The rectangle of the block that is band `k`. -/
abbrev blkRect (k : Fin 3) : Rect S32x32x768 := Rect.unit (s := S32x32x768) ![0, 0, off k] (Band k).size (blk_inb k)

/-- The rectangle of the output that is band `k` of batch row `i`. -/
abbrev outRect (k : Fin 3) (i : Fin 16) : Rect S16x32x32x768 :=
  Rect.unit (s := S16x32x32x768) ![i.val, 0, 0, off k] (Band1 k).size (out_inb k i)

/-- Where the copies of band `k` read: the band of the block. -/
abbrev src (k : Fin 3) : Memref sig .tc .vmem (Band k) .f32 := (Memref.whole cc0_scratch0).slice (blkRect k) (fun _ => rfl)

/-- Where the copy of band `k` into batch row `i` writes. -/
abbrev dst (k : Fin 3) (i : Fin 16) : Memref sig .tc .hbm (Band k) .f32 :=
  ((Memref.whole main_v0).slice (outRect k i) (fun _ => rfl)).squeeze (Band k) (band_squeezes k)

/-- The semaphore of the copy of band `k` into batch row `i`. -/
abbrev cell (k : Fin 3) (i : Fin 16) : DmaSem sig :=
  ((cc0_scratch1.slice (Rect.unit (s := S48) ![16 * k.val + i.val] S1.size (sem_inb k i))).squeeze S_ squeezes_S1_S_).sem

/-! ## The body -/

/-- A program of the body. -/
abbrev P (F : FTy → Type) [FloatOps F] : Type 1 := Prog (TpuEff nD τ sig (Elt F) Λ₀ .tc) PUnit

/-- Start the copy of band `k` into batch row `i`, then go on with `rest`. -/
abbrev issue (k : Fin 3) (i : Fin 16) (rest : P F) : P F :=
  .op (.enqueueDma (src k) (.here (dst k i)) (.dma (cell k i)) (View.wordExact_bits rfl) ((View.wordExact_bits rfl).reshape _ _) ⟨Or.inl rfl, trivial⟩)
    fun _ => rest

/-- Wait for the copy of band `k` into batch row `i`, then go on with `rest`. -/
abbrev await (k : Fin 3) (i : Fin 16) (rest : P F) : P F :=
  .op (.waitDma2 (cell k i) (src k) (dst k i) (View.wordExact_bits rfl) ((View.wordExact_bits rfl).reshape _ _)) fun _ => rest

/-- Start band `k`'s copies into the listed batch rows, in order, then go on with `rest`. -/
def copies (k : Fin 3) (rest : P F) : List (Fin 16) → P F
  | [] => rest
  | i :: l => issue k i (copies k rest l)

/-- Wait for the three copies of each listed batch row, in order, then go on with `rest`. -/
def waits (rest : P F) : List (Fin 16) → P F
  | [] => rest
  | i :: l => await 0 i (await 1 i (await 2 i (waits rest l)))

/-- The batch rows, in order. -/
abbrev rows : List (Fin 16) := List.finRange 16

/-- Read the first 32 rows of an embedding table. -/
abbrev readTable (arg : Memref sig .tc .vmem S50x384 .f32) (rest : Vec F S32x384 .f32 → P F) : P F :=
  .op (.load arg (Rect.unit (s := S50x384) ![0, 0] S32x384.size inb_S50x384_S32x384_0_0).toLoadRect (View.loadsAt_vmem h_S32x384)) rest

/-- Fill band `k` of the block with `w` (a read of the band precedes, its result unused), then go on with `rest`. -/
abbrev fill (k : Fin 3) (w : FVec F (Band k) .f32) (rest : P F) : P F :=
  .op (.load (Memref.whole cc0_scratch0) (blkRect k).toLoadRect (View.loadsAt_vmem (band_pos k))) fun _ =>
    .op (.store (Memref.whole cc0_scratch0) (blkRect k) w Finset.univ (View.stores_vmem_bits_univ (band_pos k) rfl) (.inl rfl)) fun _ => rest

/-- The body: read the two tables, then for each band fill it and start its sixteen copies, then wait for all. -/
def body (arg0 arg1 : Memref sig .tc .vmem S50x384 .f32) : P F :=
  readTable arg1 fun v0 => readTable arg0 fun v1 =>
    fill 0 (k0_pay1 v0) <| copies 0 (fill 1 (k0_pay2 v1) <| copies 1 (fill 2 (k0_pay4 (k0_pay3 v1)) <| copies 2
      (waits (.ret ⟨⟩) rows) rows) rows) rows

set_option maxRecDepth 65536 in
set_option maxHeartbeats 4000000 in
/-- The kernel of the launch is that body: by unfolding both. -/
theorem kernel_eq (arg0 : Memref sig .tc .vmem S50x384 .f32) (harg0 : arg0.IsWhole) (arg1 : Memref sig .tc .vmem S50x384 .f32)
    (harg1 : arg1.IsWhole) :
    cc0__pos_kernel (F := F) arg0 harg0 arg1 harg1 (Memref.whole main_v0) (Memref.isWhole_whole _) (Memref.whole cc0_scratch0)
      (Memref.isWhole_whole _) cc0_scratch1 = body arg0 arg1 := by
  rw [cc0__pos_kernel_eq_skeleton]
  rfl

end Cert.KernelIdeal.Bands

end
-- ==== Proof.Copies.lean ====
/-
  The copies of the kernel's body: starting a band's sixteen copies, and waiting for all forty-eight.

  Before its copies are started, a band of the block is held as sixteen shares that together are the
  whole of it (each copy reads it through its own share), and each batch row's window of the output
  is held outright. Starting a copy gives up its share, its window and its semaphore at zero for a
  flight; waiting for it gives the three back, the window now holding what the band held.
-/
module

public import proofs.«01_k».proof.Proof.Body
public import Idealize.ShloMosaic.Lib.Pipeline.FrameBody
public import Idealize.ShloMosaic.Lib.Transfers
public import Idealize.ShloMosaic.Lib.Ring
public import Idealize.ShloMosaic.Lib.Tactic

@[expose] public section

set_option maxRecDepth 16384

noncomputable section

namespace Cert.KernelIdeal.Bands

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

/-- The resources: the pipeline's and the transfers' counters. -/
local notation "𝕄" => MT nD τ sig Unit (Elt F) ℕ (Pipeline.UD sig nD τ) ℕ

/-- The transfers' counters among the resources. -/
abbrev EC : UEmb Counters 𝕄 := countersEmb (U := Pipeline.UD sig nD τ)

/-- The weakest precondition of a body's program on device `c`. -/
abbrev WP (c : Dev nD) (p : P F) (Q : PUnit → sProp 𝕄) : sProp 𝕄 :=
  wp frame (wpE (defs₀ (F := F)) Variants.none (c : Thread nD τ) none) Set.univ p Q

/-- The contents of the output while the copies run: what is held at entry. -/
abbrev OutBuf (F : FTy → Type) [FloatOps F] (c : Dev nD) : Type := Buf (Elt F) ((c : Thread nD τ).loc main_v0)

/-- The contents of the block. -/
abbrev BlkBuf (F : FTy → Type) [FloatOps F] (c : Dev nD) : Type := Buf (Elt F) ((c : Thread nD τ).loc cc0_scratch0)

/-- The output with the window of band `k` and batch row `i` overwritten by the band of the block's contents `fs`. -/
def landed (c : Dev nD) (k : Fin 3) (fs : BlkBuf F c) (fd : OutBuf F c) (i : Fin 16) : OutBuf F c :=
  (dst k i).view.write (Elt F) fd ((src k).view.read (Elt F) fs) Finset.univ

/-- The share of band `k` of the block that the copy into batch row `i` reads through. -/
def token (c : Dev nD) (k : Fin 3) (fs : BlkBuf F c) (i : Fin 16) : sProp 𝕄 :=
  (src k).view.loc (c : Thread nD τ) ↦[(src k).view.set]{shareTok fullShare 16 i} fs

/-- The window of the output of band `k` and batch row `i`, at the contents `f`. -/
def window (c : Dev nD) (k : Fin 3) (f : OutBuf F c) (i : Fin 16) : sProp 𝕄 :=
  (dst k i).view.loc (c : Thread nD τ) ↦[(dst k i).view.set]{fullShare} f

/-- The semaphore of band `k` and batch row `i`, at zero. -/
def idle (c : Dev nD) (k : Fin 3) (i : Fin 16) : sProp 𝕄 := semVal ((c : Thread nD τ), .dma (cell k i)) 0

/-- What the copy of band `k` into batch row `i` is started from. -/
def ready (c : Dev nD) (k : Fin 3) (fs : BlkBuf F c) (fd : OutBuf F c) (i : Fin 16) : sProp 𝕄 :=
  iprop(token c k fs i ∗ window c k fd i ∗ idle c k i)

/-- The copy of band `k` into batch row `i` under way. -/
def flying (c : Dev nD) (k : Fin 3) (fs : BlkBuf F c) (fd : OutBuf F c) (i : Fin 16) : sProp 𝕄 :=
  Flight EC (c : Thread nD τ) (.dma (cell k i)) () ((dst k i).view.dmaCredit) iprop(window c k (landed c k fs fd i) i ∗ token c k fs i)

/-- What is held once the copy of band `k` into batch row `i` was waited for. -/
def done (c : Dev nD) (k : Fin 3) (fs : BlkBuf F c) (fd : OutBuf F c) (i : Fin 16) : sProp 𝕄 :=
  iprop((window c k (landed c k fs fd i) i ∗ token c k fs i) ∗ idle c k i)

/-- A conjunction over the rows of a list without repetitions is the head's and the tail's. -/
theorem rows_cons {i : Fin 16} {l : List (Fin 16)} (h : (i :: l).Nodup) (Φ : Fin 16 → sProp 𝕄) :
    bigSep (i :: l).toFinset Φ = iprop(Φ i ∗ bigSep l.toFinset Φ) := by
  rw [List.toFinset_cons]
  exact BI.bigSep_insert (by rw [List.mem_toFinset]; exact (List.nodup_cons.mp h).1)

/-- A conjunction of pairs over a set of rows is the pair of the conjunctions. -/
theorem rows_sep (s : Finset (Fin 16)) (Φ Ψ : Fin 16 → sProp 𝕄) :
    (bigSep s fun i => iprop(Φ i ∗ Ψ i)) = iprop(bigSep s Φ ∗ bigSep s Ψ) :=
  BI.bigSep_sep s Φ Ψ

/-- A copy moves something. -/
theorem credit_pos (k : Fin 3) (i : Fin 16) : 0 < (dst k i).view.dmaCredit :=
  View.dmaCredit_pos _ (band_pos k)

/-- Starting one copy. -/
theorem issue_run (c : Dev nD) (k : Fin 3) (fs : BlkBuf F c) (fd : OutBuf F c) (i : Fin 16) (rest : P F) (Q : PUnit → sProp 𝕄) :
    iprop(ready c k fs fd i ∗ (flying c k fs fd i -∗ WP c rest Q)) ⊢ WP c (issue k i rest) Q := by
  unfold ready flying token window idle
  iintro ⟨⟨Ht, Hw, Hi⟩, Hk⟩
  iapply (wp_dmaLocal EC Variants.none (c : Thread nD τ) none () ((dst k i).view.dmaCredit) rfl (credit_pos k i) (Finset.Subset.refl _)) $$ [Ht Hw Hi]
  · isplitl [Ht]; · iexact Ht
    isplitl [Hw]; · iexact Hw
    iexact Hi
  iexact Hk

/-- Starting a band's copies into the listed batch rows. -/
theorem copies_run (c : Dev nD) (k : Fin 3) (fs : BlkBuf F c) (fd : OutBuf F c) (rest : P F) (Q : PUnit → sProp 𝕄) :
    ∀ l : List (Fin 16), l.Nodup →
      iprop((bigSep l.toFinset fun i => ready c k fs fd i) ∗ ((bigSep l.toFinset fun i => flying c k fs fd i) -∗ WP c rest Q))
        ⊢ WP c (copies k rest l) Q
  | [], _ => by
    rw [List.toFinset_nil, BI.bigSep_empty, BI.bigSep_empty]
    unfold copies
    iintro ⟨He, Hk⟩
    iapply Hk $$ He
  | i :: l, h => by
    rw [rows_cons h, rows_cons h]
    unfold copies
    iintro ⟨⟨Hr, Hrs⟩, Hk⟩
    iapply (issue_run c k fs fd i _ Q)
    isplitl [Hr]; · iexact Hr
    iintro Hf
    iapply (copies_run c k fs fd rest Q l (List.nodup_cons.mp h).2)
    isplitl [Hrs]; · iexact Hrs
    iintro Hfs
    iapply Hk
    isplitl [Hf]; · iexact Hf
    iexact Hfs

/-- What the core still owes and has waited for: nothing owed, some waits done. -/
def settled (c : Dev nD) : sProp 𝕄 := iprop(∃ W, owes (c : Thread nD τ) 0 W)

/-- Waiting for one copy. -/
theorem await_run (c : Dev nD) (k : Fin 3) (fs : BlkBuf F c) (fd : OutBuf F c) (i : Fin 16) (rest : P F) (Q : PUnit → sProp 𝕄) :
    iprop((flying c k fs fd i ∗ settled c) ∗ ((done c k fs fd i ∗ settled c) -∗ WP c rest Q)) ⊢ WP c (await k i rest) Q := by
  unfold flying settled done idle
  iintro ⟨⟨Hf, ⟨%W, HW⟩⟩, Hk⟩
  iapply (wp_waitLocal EC Variants.none (c : Thread nD τ) none () rfl (W := W)) $$ [Hf HW]
  · isplitl [Hf]; · iexact Hf
    iexact HW
  iintro ⟨HD, Hs, HW⟩
  iapply Hk
  isplitl [HD Hs]
  · isplitl [HD]; · iexact HD
    iexact Hs
  iexists _; iexact HW

/-- Waiting for the three copies of each listed batch row. -/
theorem waits_run (c : Dev nD) (f0 f1 f2 : BlkBuf F c) (fd : OutBuf F c) (rest : P F) (Q : PUnit → sProp 𝕄) :
    ∀ l : List (Fin 16), l.Nodup →
      iprop(((bigSep l.toFinset fun i => iprop(flying c 0 f0 fd i ∗ flying c 1 f1 fd i ∗ flying c 2 f2 fd i)) ∗ settled c)
          ∗ (((bigSep l.toFinset fun i => iprop(done c 0 f0 fd i ∗ done c 1 f1 fd i ∗ done c 2 f2 fd i)) ∗ settled c) -∗ WP c rest Q))
        ⊢ WP c (waits rest l) Q
  | [], _ => by
    rw [List.toFinset_nil, BI.bigSep_empty, BI.bigSep_empty]
    unfold waits
    iintro ⟨He, Hk⟩
    iapply Hk $$ He
  | i :: l, h => by
    rw [rows_cons h, rows_cons h]
    unfold waits
    iintro ⟨⟨⟨⟨H0, H1, H2⟩, Hrs⟩, HW⟩, Hk⟩
    iapply (await_run c 0 f0 fd i _ Q)
    isplitl [H0 HW]
    · isplitl [H0]; · iexact H0
      iexact HW
    iintro ⟨H0, HW⟩
    iapply (await_run c 1 f1 fd i _ Q)
    isplitl [H1 HW]
    · isplitl [H1]; · iexact H1
      iexact HW
    iintro ⟨H1, HW⟩
    iapply (await_run c 2 f2 fd i _ Q)
    isplitl [H2 HW]
    · isplitl [H2]; · iexact H2
      iexact HW
    iintro ⟨H2, HW⟩
    iapply (waits_run c f0 f1 f2 fd rest Q l (List.nodup_cons.mp h).2)
    isplitl [Hrs HW]
    · isplitl [Hrs]; · iexact Hrs
      iexact HW
    iintro ⟨Hds, HW⟩
    iapply Hk
    isplitl [H0 H1 H2 Hds]
    · isplitl [H0 H1 H2]
      · isplitl [H0]; · iexact H0
        isplitl [H1]; · iexact H1
        iexact H2
      iexact Hds
    iexact HW

end Cert.KernelIdeal.Bands

end
-- ==== Proof.BodyRun.lean ====
/-
  The run of the kernel's body: from the two tables, the block, the output and the forty-eight
  semaphores at zero, to the same with every window of the output holding the band of the block that
  was copied into it.
-/
module

public import proofs.«01_k».proof.Proof.Copies

@[expose] public section

set_option maxRecDepth 16384

noncomputable section

namespace Cert.KernelIdeal.Bands

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

/-- The resources: the pipeline's and the transfers' counters. -/
local notation "𝕄" => MT nD τ sig Unit (Elt F) ℕ (Pipeline.UD sig nD τ) ℕ

/-! ## Filling a band -/

/-- Band `k` of the block, at the contents `f`. -/
def band (c : Dev nD) (k : Fin 3) (f : BlkBuf F c) : sProp 𝕄 :=
  (src k).view.loc (c : Thread nD τ) ↦[(src k).view.set]{fullShare} f

/-- The block with band `k` overwritten by `w`. -/
def filled (c : Dev nD) (k : Fin 3) (f : BlkBuf F c) (w : FVec F (Band k) .f32) : BlkBuf F c :=
  (src k).view.write (Elt F) f w Finset.univ

/-- Filling a band. -/
theorem fill_run (c : Dev nD) (k : Fin 3) (f : BlkBuf F c) (w : FVec F (Band k) .f32) (rest : P F) (Q : PUnit → sProp 𝕄) :
    iprop(band c k f ∗ (band c k (filled c k f w) -∗ WP c rest Q)) ⊢ WP c (fill k w rest) Q := by
  unfold band filled
  iintro ⟨Hb, Hk⟩
  iapply (wp_load_rect Variants.none (c : Thread nD τ) none Set.univ (m := Memref.whole cc0_scratch0) (r := blkRect k)
    (Finset.Subset.refl _)) $$ Hb
  iintro Hb
  iapply (wp_store Variants.none (c : Thread nD τ) none Set.univ (m := Memref.whole cc0_scratch0) (r := blkRect k)
    (w := w) (Mk := Finset.univ) (S := (src k).view.set) (f := f) (Finset.Subset.refl _)) $$ Hb
  iexact Hk

/-! ## Dealing a band to its sixteen copies, and collecting it -/

/-- What remains of band `k` beside its sixteen copies' shares. -/
def remainder (c : Dev nD) (k : Fin 3) (f : BlkBuf F c) : sProp 𝕄 :=
  (src k).view.loc (c : Thread nD τ) ↦[(src k).view.set]{shareDrop fullShare 16} f

/-- A band is its sixteen copies' shares and the remainder. -/
theorem band_deal (c : Dev nD) (k : Fin 3) (f : BlkBuf F c) :
    band c k f ⊢ iprop(remainder c k f ∗ bigSep Finset.univ fun i => token c k f i) :=
  pointsTo_toks_split fullShare 16

/-- The sixteen copies' shares and the remainder are the band. -/
theorem band_collect (c : Dev nD) (k : Fin 3) (f : BlkBuf F c) :
    iprop(remainder c k f ∗ bigSep Finset.univ fun i => token c k f i) ⊢ band c k f :=
  pointsTo_toks_join fullShare 16

/-- The rows of the list of all rows are all rows. -/
theorem rows_univ : rows.toFinset = Finset.univ := by
  ext i; simp

/-! ## A band, filled and its copies started -/

/-- The windows and the semaphores of band `k`. -/
def lane (c : Dev nD) (k : Fin 3) (fd : Fin 16 → OutBuf F c) : sProp 𝕄 :=
  iprop((bigSep Finset.univ fun i => window c k (fd i) i) ∗ bigSep Finset.univ fun i => idle c k i)

/-- Filling band `k` with `w` and starting its sixteen copies. -/
theorem band_run (c : Dev nD) (k : Fin 3) (f : BlkBuf F c) (fd : OutBuf F c) (w : FVec F (Band k) .f32) (rest : P F)
    (Q : PUnit → sProp 𝕄) :
    iprop(band c k f ∗ lane c k (fun _ => fd)
        ∗ ((remainder c k (filled c k f w) ∗ bigSep rows.toFinset fun i => flying c k (filled c k f w) fd i) -∗ WP c rest Q))
      ⊢ WP c (fill k w (copies k rest rows)) Q := by
  unfold lane
  iintro ⟨Hb, ⟨Hw, Hi⟩, Hk⟩
  iapply (fill_run c k f w _ Q)
  isplitl [Hb]; · iexact Hb
  iintro Hb
  ihave Hb := (band_deal c k (filled c k f w)) $$ Hb
  icases Hb with ⟨Hr, Ht⟩
  iapply (copies_run c k (filled c k f w) fd rest Q rows (List.nodup_finRange 16))
  isplitl [Ht Hw Hi]
  · rw [rows_univ]
    unfold ready
    rw [rows_sep, rows_sep]
    isplitl [Ht]; · iexact Ht
    isplitl [Hw]; · iexact Hw
    iexact Hi
  iintro Hf
  iapply Hk
  isplitl [Hr]; · iexact Hr
  iexact Hf

/-- Once its sixteen copies were waited for, band `k` is whole again, its semaphores at zero, and each of its windows
    holds what was copied. -/
theorem band_done (c : Dev nD) (k : Fin 3) (fs : BlkBuf F c) (fd : OutBuf F c) :
    iprop(remainder c k fs ∗ bigSep Finset.univ fun i => done c k fs fd i) ⊢ iprop(band c k fs ∗ lane c k (landed c k fs fd)) := by
  unfold done lane
  rw [rows_sep, rows_sep]
  iintro ⟨Hr, ⟨Hw, Ht⟩, Hi⟩
  isplitl [Hr Ht]
  · iapply (band_collect c k fs)
    isplitl [Hr]; · iexact Hr
    iexact Ht
  isplitl [Hw]; · iexact Hw
  iexact Hi

/-! ## The body -/

/-- The first 32 rows of a table `X`. -/
def top (X : S50x384.Idx → Elt F .f32) : Vec F S32x384 .f32 :=
  fun x => X ((Rect.unit (s := S50x384) ![0, 0] S32x384.size inb_S50x384_S32x384_0_0).toLoadRect.idx x)

/-- Reading the first 32 rows of a table. -/
theorem read_run (c : Dev nD) (arg : Memref sig .tc .vmem S50x384 .f32) (X : S50x384.Idx → Elt F .f32)
    (rest : Vec F S32x384 .f32 → P F) (Q : PUnit → sProp 𝕄) :
    iprop(owns (c : Thread nD τ) arg fullShare X ∗ (owns (c : Thread nD τ) arg fullShare X -∗ WP c (rest (top X)) Q))
      ⊢ WP c (readTable arg rest) Q := by
  unfold owns
  iintro ⟨⟨%f, %hf, Ha⟩, Hk⟩
  subst hf
  iapply (wp_load Variants.none (c : Thread nD τ) none Set.univ
    (fun _ h => by obtain ⟨x, -, rfl⟩ := Finset.mem_map.mp h; exact arg.view.emb_mem_set x)) $$ Ha
  iintro Ha
  iapply Hk
  iexists f
  isplitr; · ipureintro; rfl
  iexact Ha

/-- What each band is filled with, from the first 32 rows of the two tables. -/
def pay (row col : Vec F S32x384 .f32) : (k : Fin 3) → FVec F (Band k) .f32
  | 0 => k0_pay1 col
  | 1 => k0_pay2 row
  | 2 => k0_pay4 (k0_pay3 row)

/-- The bands and the windows of the output, each band `k` of the block at `fs k` and each window at `fd k i`. -/
def lanes (c : Dev nD) (fs : Fin 3 → BlkBuf F c) (fd : Fin 3 → Fin 16 → OutBuf F c) : sProp 𝕄 :=
  iprop((band c 0 (fs 0) ∗ band c 1 (fs 1) ∗ band c 2 (fs 2)) ∗ (lane c 0 (fd 0) ∗ lane c 1 (fd 1) ∗ lane c 2 (fd 2)))

/-- The run of the body: the tables are kept, each band of the block is filled, and each window of the output holds what its
    band was filled with. -/
theorem body_run (c : Dev nD) (arg0 arg1 : Memref sig .tc .vmem S50x384 .f32) (R C : S50x384.Idx → Elt F .f32) (f : BlkBuf F c)
    (fd : OutBuf F c) (Q : PUnit → sProp 𝕄) :
    iprop((owns (c : Thread nD τ) arg0 fullShare R ∗ owns (c : Thread nD τ) arg1 fullShare C ∗ lanes c (fun _ => f) (fun _ _ => fd) ∗ settled c)
        ∗ ((owns (c : Thread nD τ) arg0 fullShare R ∗ owns (c : Thread nD τ) arg1 fullShare C
            ∗ lanes c (fun k => filled c k f (pay (top R) (top C) k)) (fun k => landed c k (filled c k f (pay (top R) (top C) k)) fd)
            ∗ settled c) -∗ Q ⟨⟩))
      ⊢ WP c (body arg0 arg1) Q := by
  unfold body lanes
  iintro ⟨⟨HR, HC, ⟨⟨Hb0, Hb1, Hb2⟩, ⟨Hl0, Hl1, Hl2⟩⟩, HW⟩, Hk⟩
  iapply (read_run c arg1 C _ Q)
  isplitl [HC]; · iexact HC
  iintro HC
  iapply (read_run c arg0 R _ Q)
  isplitl [HR]; · iexact HR
  iintro HR
  iapply (band_run c 0 f fd (pay (top R) (top C) 0) _ Q)
  isplitl [Hb0]; · iexact Hb0
  isplitl [Hl0]; · iexact Hl0
  iintro ⟨Hr0, Hf0⟩
  iapply (band_run c 1 f fd (pay (top R) (top C) 1) _ Q)
  isplitl [Hb1]; · iexact Hb1
  isplitl [Hl1]; · iexact Hl1
  iintro ⟨Hr1, Hf1⟩
  iapply (band_run c 2 f fd (pay (top R) (top C) 2) _ Q)
  isplitl [Hb2]; · iexact Hb2
  isplitl [Hl2]; · iexact Hl2
  iintro ⟨Hr2, Hf2⟩
  iapply (waits_run c (filled c 0 f (pay (top R) (top C) 0)) (filled c 1 f (pay (top R) (top C) 1))
    (filled c 2 f (pay (top R) (top C) 2)) fd (.ret ⟨⟩) Q rows (List.nodup_finRange 16))
  isplitl [Hf0 Hf1 Hf2 HW]
  · isplitl [Hf0 Hf1 Hf2]
    · rw [rows_sep, rows_sep]
      isplitl [Hf0]; · iexact Hf0
      isplitl [Hf1]; · iexact Hf1
      iexact Hf2
    iexact HW
  rw [rows_univ, rows_sep, rows_sep]
  iintro ⟨⟨Hd0, Hd1, Hd2⟩, HW⟩
  ihave H0 := (band_done c 0 (filled c 0 f (pay (top R) (top C) 0)) fd) $$ [Hr0 Hd0]
  · isplitl [Hr0]; · iexact Hr0
    iexact Hd0
  ihave H1 := (band_done c 1 (filled c 1 f (pay (top R) (top C) 1)) fd) $$ [Hr1 Hd1]
  · isplitl [Hr1]; · iexact Hr1
    iexact Hd1
  ihave H2 := (band_done c 2 (filled c 2 f (pay (top R) (top C) 2)) fd) $$ [Hr2 Hd2]
  · isplitl [Hr2]; · iexact Hr2
    iexact Hd2
  icases H0 with ⟨Hb0, Hl0⟩
  icases H1 with ⟨Hb1, Hl1⟩
  icases H2 with ⟨Hb2, Hl2⟩
  iapply (le_wp_ret (E := Set.univ))
  iapply Hk
  isplitl [HR]; · iexact HR
  isplitl [HC]; · iexact HC
  isplitr [HW]
  · isplitl [Hb0 Hb1 Hb2]
    · isplitl [Hb0]; · iexact Hb0
      isplitl [Hb1]; · iexact Hb1
      iexact Hb2
    isplitl [Hl0]; · iexact Hl0
    isplitl [Hl1]; · iexact Hl1
    iexact Hl2
  iexact HW

end Cert.KernelIdeal.Bands

end
-- ==== Proof.Layout.lean ====
/-
  Where the bands and the windows lie, and what they hold.

  The block is its three bands and the output is its forty-eight windows. Element (b, h, w, ch) of
  the output lies in the window of batch row b and of ch's band, and once the copies have landed it
  holds entry (w, ch) of the column table when ch is below 384, and entry (h, ch - 384) of the row
  table otherwise.
-/
module

public import proofs.«01_k».proof.Proof.BodyRun
public import Idealize.ShloMosaic.Lib.Pipeline.Value
public import Idealize.ShloMosaic.Lib.ValueIdxCore

@[expose] public section

set_option maxRecDepth 16384

noncomputable section

namespace Cert.KernelIdeal.Bands

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx (ix2 ix3 eq_ix2)

variable {F : FTy → Type} [FloatOps F]

/-- The resources: the pipeline's and the transfers' counters. -/
local notation "𝕄" => MT nD τ sig Unit (Elt F) ℕ (Pipeline.UD sig nD τ) ℕ

/-! ## Which elements -/

/-- The band a channel below 768 lies in. -/
theorem band_of (ch : ℕ) (h : ch < 768) : ∃ k : Fin 3, off k ≤ ch ∧ ch < off k + wid k := by
  by_cases h1 : ch < 384
  · exact ⟨0, Nat.zero_le _, by simpa using h1⟩
  by_cases h2 : ch < 640
  · exact ⟨1, by simpa using h1, by simpa using h2⟩
  · exact ⟨2, by simpa using h2, by simpa using h⟩

/-- A channel lies in one band only. -/
theorem band_unique (ch : ℕ) (k k' : Fin 3) (h : off k ≤ ch ∧ ch < off k + wid k) (h' : off k' ≤ ch ∧ ch < off k' + wid k') :
    k = k' := by
  revert h h'
  fin_cases k <;> fin_cases k' <;> simp <;> omega

/-- Band `k` of the block is the elements whose channel is in the band. -/
theorem mem_band (k : Fin 3) (y : S32x32x768.Idx) : y ∈ (blkRect k).set ↔ off k ≤ (y 2).val ∧ (y 2).val < off k + wid k := by
  rw [Rect.mem_set_unit]
  refine ⟨fun h => h 2, fun h a => ?_⟩
  match a with
  | ⟨0, _⟩ => exact ⟨Nat.zero_le _, (Nat.zero_add 32).symm ▸ (y 0).isLt⟩
  | ⟨1, _⟩ => exact ⟨Nat.zero_le _, (Nat.zero_add 32).symm ▸ (y 1).isLt⟩
  | ⟨2, _⟩ => exact h

/-- The window of band `k` and batch row `i` is that batch row's elements whose channel is in the band. -/
theorem mem_window (k : Fin 3) (i : Fin 16) (y : S16x32x32x768.Idx) :
    y ∈ (outRect k i).set ↔ (y 0).val = i.val ∧ off k ≤ (y 3).val ∧ (y 3).val < off k + wid k := by
  rw [Rect.mem_set_unit]
  refine ⟨fun h => ⟨by have h0 : i.val ≤ (y 0).val ∧ (y 0).val < i.val + 1 := h 0
                       omega, h 3⟩, fun h a => ?_⟩
  match a with
  | ⟨0, _⟩ => exact (by omega : i.val ≤ (y 0).val ∧ (y 0).val < i.val + 1)
  | ⟨1, _⟩ => exact ⟨Nat.zero_le _, (Nat.zero_add 32).symm ▸ (y 1).isLt⟩
  | ⟨2, _⟩ => exact ⟨Nat.zero_le _, (Nat.zero_add 32).symm ▸ (y 2).isLt⟩
  | ⟨3, _⟩ => exact h.2

/-- The elements of the block a band's copies read are the band. -/
theorem src_set (k : Fin 3) : (src k).view.set = (blkRect k).set := View.set_slice_whole _ _

/-- The elements of the output a copy writes are its window. -/
theorem dst_set (k : Fin 3) (i : Fin 16) : (dst k i).view.set = (outRect k i).set :=
  (View.set_reshape _ _).trans (View.set_slice_whole _ _)

/-! ## Splitting and joining -/

/-- Two bands share no element of the block, -/
theorem bands_disjoint (k k' : Fin 3) (h : k ≠ k') : Disjoint (src k).view.set (src k').view.set := by
  rw [src_set, src_set, Finset.disjoint_left]
  intro y hy hy'
  exact h (band_unique _ k k' ((mem_band k y).mp hy) ((mem_band k' y).mp hy'))

/-- and every element of the block is in a band. -/
theorem bands_cover : Finset.biUnion (β := S32x32x768.Idx) Finset.univ (fun k => (src k).view.set) = Finset.univ :=
  Finset.eq_univ_iff_forall.mpr fun y => by
    obtain ⟨k, hk⟩ := band_of (y (2 : Fin 3)).val (y (2 : Fin 3)).isLt
    refine Finset.mem_biUnion.mpr ⟨k, Finset.mem_univ _, ?_⟩
    rw [src_set]
    exact (mem_band k y).mpr hk

/-- The block is its three bands, -/
theorem block_split (c : Dev nD) (f : BlkBuf F c) :
    ((c : Thread nD τ).loc cc0_scratch0 ↦{fullShare} f : sProp 𝕄) = bigSep Finset.univ fun k => band c k f :=
  Ring.pointsTo_blocks (ℓ := (c : Thread nD τ).loc cc0_scratch0) (fun k : Fin 3 => (src k).view.set) bands_disjoint bands_cover f

/-- and bands at contents of their own are the block at some contents. -/
theorem block_join (c : Dev nD) (fs : Fin 3 → BlkBuf F c) :
    (bigSep Finset.univ fun k => band c k (fs k)) ⊢ (iprop(∃ g, (c : Thread nD τ).loc cc0_scratch0 ↦{fullShare} g) : sProp 𝕄) :=
  Ring.pointsTo_blocks_join (ℓ := (c : Thread nD τ).loc cc0_scratch0) (fun k : Fin 3 => (src k).view.set) bands_disjoint bands_cover
    fs (fs 0)

/-- The output is its forty-eight windows. -/
theorem output_split (c : Dev nD) (f : OutBuf F c) :
    ((c : Thread nD τ).loc main_v0 ↦{fullShare} f : sProp 𝕄)
      = bigSep Finset.univ fun k => bigSep Finset.univ fun i => window c k f i := by
  rw [Ring.pointsTo_blocks (ℓ := (c : Thread nD τ).loc main_v0) (fun p : Fin 3 × Fin 16 => (dst p.1 p.2).view.set)
    (fun p p' h => by
      rw [dst_set, dst_set, Finset.disjoint_left]
      intro y hy hy'
      obtain ⟨e, hk⟩ := (mem_window p.1 p.2 y).mp hy
      obtain ⟨e', hk'⟩ := (mem_window p'.1 p'.2 y).mp hy'
      exact h (Prod.ext (band_unique _ _ _ hk hk') (Fin.ext (e.symm.trans e'))))
    (Finset.eq_univ_iff_forall.mpr fun y => by
      obtain ⟨k, hk⟩ := band_of (y (3 : Fin 4)).val (y (3 : Fin 4)).isLt
      refine Finset.mem_biUnion.mpr ⟨(k, ⟨(y (0 : Fin 4)).val, (y (0 : Fin 4)).isLt⟩), Finset.mem_univ _, ?_⟩
      rw [dst_set]
      exact (mem_window k _ y).mpr ⟨rfl, hk⟩) f, BI.bigSep_univ_prod]
  rfl

/-! ## What the windows hold -/

/-- The output: entry (b, h, w, ch) is the column table's (w, ch) for ch below 384 and the row table's (h, ch - 384)
    for the others, whatever b. -/
def want (R C : S50x384.Idx → Elt F .f32) : S16x32x32x768.Idx → Elt F .f32 := fun y =>
  if h : (y 3).val < 384 then C (ix2 ⟨(y 2).val, (y 2).isLt.trans (by decide)⟩ ⟨(y 3).val, h⟩)
  else R (ix2 ⟨(y 1).val, (y 1).isLt.trans (by decide)⟩
    ⟨(y 3).val - 384, by have h3 : (y 3).val < 768 := (y 3).isLt
                         omega⟩)

/-- Entry (a, b) of a table's first 32 rows is entry (a, b) of the table. -/
theorem top_apply (X : S50x384.Idx → Elt F .f32) (a : Fin 32) (b : Fin 384) :
    top X (ix2 a b) = X (ix2 ⟨a.val, a.isLt.trans (by decide)⟩ b) := by
  refine congrArg X (funext fun d => Fin.ext ?_)
  match d with
  | ⟨0, _⟩ => exact (by omega : 0 + 1 * a.val = a.val)
  | ⟨1, _⟩ => exact (by omega : 0 + 1 * b.val = b.val)

/-- Band 0's values are the column table's rows, repeated down the block: (h, w, ch) holds (w, ch). -/
theorem pay_0 (X : Vec F S32x384 .f32) (x : S32x32x384.Idx) : k0_pay1 X x = X (ix2 (x 1) (x 2)) := by
  unfold k0_pay1
  simp only [shapeCast_self]
  refine (broadcastTo_apply _ _ x (ix3 0 (x 1) (x 2)) fun a => ?_).trans ?_
  · match a with
    | ⟨0, _⟩ => rfl
    | ⟨1, _⟩ => rfl
    | ⟨2, _⟩ => rfl
  · exact (shapeCast_addUnit_apply ![32, 384] X _ _).trans (congrArg X (eq_ix2 _))

/-- A table's `n` columns from `o` on, repeated across the block: (h, w, j) holds (h, o + j). -/
theorem across_apply (n o : ℕ) (hn : n ≠ 1) (X : Vec F S32x384 .f32) (hs : S32x384.Slices ![0, o] ⟨2, ![32, n]⟩)
    (hc : Shape.ShapeCasts ⟨2, ![32, n]⟩ ⟨3, ![32, 1, n]⟩) (hb : Shape.Broadcasts ⟨3, ![32, 1, n]⟩ ⟨3, ![32, 32, n]⟩)
    (x : Shape.Idx ⟨3, ![32, 32, n]⟩) (k : Fin 384) (hk : k.val = o + (x 2).val) :
    broadcastTo ⟨3, ![32, 32, n]⟩ (shapeCast ⟨3, ![32, 1, n]⟩ (extractStridedSlice ⟨2, ![32, n]⟩ ![0, o] X hs) hc) hb x
      = X (ix2 (x 0) k) := by
  refine (broadcastTo_apply _ _ x (ix3 (n0 := 32) (n1 := 1) (n2 := n) (x 0) 0 (x 2)) fun a => ?_).trans ?_
  · match a with
    | ⟨0, _⟩ => rfl
    | ⟨1, _⟩ => rfl
    | ⟨2, _⟩ => exact (if_neg hn).symm
  refine (shapeCast_apply _ _ _ (ix2 (n0 := 32) (n1 := n) (x 0) (x 2)) ?_).trans ?_
  · rw [Shape.rowMajor_val_two, Shape.rowMajor_val_three]
    show (x 0).val * n + (x 2).val = ((x 0).val * 1 + 0) * n + (x 2).val
    rw [Nat.mul_one, Nat.add_zero]
  · refine extractStridedSlice_apply _ _ _ _ (ix2 (x 0) k) fun a => ?_
    match a with
    | ⟨0, _⟩ => exact (Nat.zero_add _).symm
    | ⟨1, _⟩ => exact hk

/-- Band 1's values: (h, w, j) holds the row table's (h, j). -/
theorem pay_1 (X : Vec F S32x384 .f32) (x : S32x32x256.Idx) (k : Fin 384) (hk : k.val = (x 2).val) :
    k0_pay2 X x = X (ix2 (x 0) k) := by
  unfold k0_pay2
  simp only [shapeCast_self]
  exact across_apply 256 0 (by decide) X _ _ _ x k (hk.trans (Nat.zero_add _).symm)

/-- Band 2's values: (h, w, j) holds the row table's (h, 256 + j). -/
theorem pay_2 (X : Vec F S32x384 .f32) (x : S32x32x128.Idx) (k : Fin 384) (hk : k.val = 256 + (x 2).val) :
    k0_pay4 (k0_pay3 X) x = X (ix2 (x 0) k) := by
  unfold k0_pay4 k0_pay3
  simp only [shapeCast_self]
  exact across_apply 128 256 (by decide) X _ _ _ x k hk

/-- Element (h, w, j) of the window of band `k` and batch row `i` is the output's (i, h, w, off k + j). -/
theorem dst_emb (k : Fin 3) (i : Fin 16) (x : (Band k).Idx) :
    (((dst k i).view.emb x : S16x32x32x768.Idx) 1).val = (x 0).val ∧ (((dst k i).view.emb x : S16x32x32x768.Idx) 2).val = (x 1).val
      ∧ (((dst k i).view.emb x : S16x32x32x768.Idx) 3).val = off k + (x 2).val := by
  have e : ((dst k i).view.emb x : S16x32x32x768.Idx) = (outRect k i).emb (Fin.cons ⟨0, Nat.one_pos⟩ x) :=
    congrArg (outRect k i).emb (Shape.reshapeEquiv_cons_one (d := ![32, 32, wid k]) _ x)
  rw [e]
  exact ⟨(by omega : 0 + 1 * (x 0).val = (x 0).val), (by omega : 0 + 1 * (x 1).val = (x 1).val),
    (by omega : off k + 1 * (x 2).val = off k + (x 2).val)⟩

/-- What a band's copies copy is what the output is to hold there. -/
theorem pay_want (R C : S50x384.Idx → Elt F .f32) (k : Fin 3) (i : Fin 16) (x : (Band k).Idx) :
    pay (top R) (top C) k x = want R C ((dst k i).view.emb x) := by
  obtain ⟨h1, h2, h3⟩ := dst_emb k i x
  generalize ((dst k i).view.emb x : S16x32x32x768.Idx) = y at h1 h2 h3 ⊢
  have low (h : (y 3).val < 384) (a : Fin 50) (b : Fin 384) (ha : a.val = (y 2).val) (hb : b.val = (y 3).val) :
      C (ix2 a b) = want R C y := by
    unfold want
    rw [dif_pos h]
    exact congrArg C (congrArg₂ ix2 (Fin.ext ha) (Fin.ext hb))
  have high (h : ¬ (y 3).val < 384) (a : Fin 50) (b : Fin 384) (ha : a.val = (y 1).val) (hb : b.val + 384 = (y 3).val) :
      R (ix2 a b) = want R C y := by
    unfold want
    rw [dif_neg h]
    exact congrArg R (congrArg₂ ix2 (Fin.ext ha) (Fin.ext (by show b.val = (y 3).val - 384; omega)))
  match k with
  | 0 =>
    have hx : (x 2).val < 384 := (x 2).isLt
    have h3 : (y 3).val = 0 + (x 2).val := h3
    refine (pay_0 (top C) x).trans ((top_apply C _ _).trans (low (by omega) _ _ h2.symm ?_))
    show (x 2).val = (y 3).val
    omega
  | 1 =>
    have hx : (x 2).val < 256 := (x 2).isLt
    have h3 : (y 3).val = 384 + (x 2).val := h3
    refine (pay_1 (top R) x ⟨(x 2).val, by omega⟩ rfl).trans ((top_apply R _ _).trans (high (by omega) _ _ h1.symm ?_))
    show (x 2).val + 384 = (y 3).val
    omega
  | 2 =>
    have hx : (x 2).val < 128 := (x 2).isLt
    have h3 : (y 3).val = 640 + (x 2).val := h3
    refine (pay_2 (top R) x ⟨256 + (x 2).val, by omega⟩ rfl).trans ((top_apply R _ _).trans (high (by omega) _ _ h1.symm ?_))
    show 256 + (x 2).val + 384 = (y 3).val
    omega

/-- Once its copy has landed, a window holds what the output is to hold there. -/
theorem window_want (c : Dev nD) (R C : S50x384.Idx → Elt F .f32) (f : BlkBuf F c) (fd : OutBuf F c) (k : Fin 3) (i : Fin 16) :
    window c k (landed c k (filled c k f (pay (top R) (top C) k)) fd i) i = window c k (want R C : OutBuf F c) i := by
  refine pointsTo_congr fun y hy => ?_
  obtain ⟨x, -, rfl⟩ := Finset.mem_map.mp hy
  unfold landed filled
  rw [View.read_write_univ]
  exact (View.write_emb_of_mem _ _ (Finset.mem_univ x)).trans (pay_want R C k i x)

end Cert.KernelIdeal.Bands

end
-- ==== Proof.Region.lean ====
/-
  The whole program around the kernel: what it holds before and after, and what it leaves.

  The kernel is entered with its block at any contents, its forty-eight semaphores at zero and the output whole. It gives
  them back with the output at `want`: the table `main_arg2` in channels 0 to 383 and the table `main_arg1` in channels 384
  to 767. The one operation after it transposes the output into the result.
-/
module

public import proofs.«01_k».proof.Proof.Layout
public import Idealize.ShloMosaic.Lib.Pipeline.FrameSuffixV

@[expose] public section

set_option maxRecDepth 16384

noncomputable section

namespace Cert.KernelIdeal.Bands

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

/-- The resources: the pipeline's and the transfers' counters. -/
local notation "𝕄" => MT nD τ sig Unit (Elt F) ℕ (Pipeline.UD sig nD τ) ℕ

variable (m : (ℓ : Loc nD τ sig) → Buf (Elt F) ℓ) (ρ : Dev nD → PrngReg)

/-! ## What the kernel holds -/

/-- The forty-eight copies' semaphores. -/
def osem : Fin 3 × Fin 16 → SemLoc sig := fun p => .dma (cell p.1 p.2)

/-- They are the kernel's own, and distinct. -/
theorem osem_facts : Pipeline.OwnSemFacts spec0 osem := by decide +kernel

/-- The block at some contents, the semaphores at zero, and the output at `g`. -/
def held (c : Dev nD) (g : OutBuf F c) : sProp 𝕄 :=
  iprop((∃ f : BlkBuf F c, (c : Thread nD τ).loc cc0_scratch0 ↦{fullShare} f)
    ∗ (bigSep Finset.univ fun k => bigSep Finset.univ fun i => idle c k i)
    ∗ (c : Thread nD τ).loc main_v0 ↦{fullShare} g)

/-- The semaphores at zero, band by band. -/
theorem idles_eq (c : Dev nD) :
    (Pipeline.ownSems0 (Ix := Unit) (Name := ℕ) (U := Pipeline.UD sig nD τ) (Lvl := ℕ) (Val := Elt F) (τ := τ) osem c : sProp 𝕄)
      = bigSep Finset.univ fun k => bigSep Finset.univ fun i => idle c k i := by
  unfold Pipeline.ownSems0
  rw [BI.bigSep_univ_prod]
  rfl

/-- What the program gives the kernel and takes back from it is `held`. -/
theorem held_eq (c : Dev nD) (W G : (c : Dev nD) → (b : Ref sig .tc) → Buf (Elt F) ((c : Thread nD τ).loc b)) :
    (Pipeline.ΦDRV osem spec0 ∅ {main_v0} W G c ⊢ held c (G c main_v0))
      ∧ (held c (G c main_v0) ⊢ Pipeline.ΦDRV osem spec0 ∅ {main_v0} W G c) := by
  unfold Pipeline.ΦDRV held
  rw [scopedRest0_eq, idles_eq, BI.bigSep_empty, BI.bigSep_singleton]
  constructor
  · iintro ⟨Hb, Hi, -, Ho⟩
    isplitl [Hb]; · iexact Hb
    isplitl [Hi]; · iexact Hi
    iexact Ho
  · iintro ⟨Hb, Hi, Ho⟩
    isplitl [Hb]; · iexact Hb
    isplitl [Hi]; · iexact Hi
    isplitr; · iempintro
    iexact Ho

/-- Before the body: the block is its bands, the output its windows. -/
theorem lanes_of_held (c : Dev nD) (g : OutBuf F c) :
    held c g ⊢ iprop(∃ f : BlkBuf F c, lanes c (fun _ => f) (fun _ _ => g)) := by
  unfold held lanes lane
  rw [output_split, Ring.bigSep_fin3, Ring.bigSep_fin3]
  iintro ⟨⟨%f, Hb⟩, ⟨Hi0, Hi1, Hi2⟩, ⟨Hw0, Hw1, Hw2⟩⟩
  iexists f
  isplitl [Hb]
  · iapply (Entails.of_eq (Ring.bigSep_fin3 fun k => band c k f))
    iapply (Entails.of_eq (block_split c f))
    iexact Hb
  isplitl [Hw0 Hi0]
  · isplitl [Hw0]; · iexact Hw0
    iexact Hi0
  isplitl [Hw1 Hi1]
  · isplitl [Hw1]; · iexact Hw1
    iexact Hi1
  isplitl [Hw2]; · iexact Hw2
  iexact Hi2

/-- A band's windows after its copies landed are its windows at the wanted output. -/
theorem lane_want (c : Dev nD) (R C : S50x384.Idx → Elt F .f32) (f : BlkBuf F c) (fd : OutBuf F c) (k : Fin 3) :
    lane c k (landed c k (filled c k f (pay (top R) (top C) k)) fd) = lane c k (fun _ => (want R C : OutBuf F c)) := by
  unfold lane
  rw [BI.bigSep_congr fun i _ => window_want c R C f fd k i]

/-- After the body: the bands are the block again, and the windows the output at `want`. -/
theorem held_of_lanes (c : Dev nD) (R C : S50x384.Idx → Elt F .f32) (f : BlkBuf F c) (fd : OutBuf F c) :
    lanes c (fun k => filled c k f (pay (top R) (top C) k)) (fun k => landed c k (filled c k f (pay (top R) (top C) k)) fd)
      ⊢ held c (want R C) := by
  unfold held lanes
  rw [lane_want, lane_want, lane_want, output_split, Ring.bigSep_fin3, Ring.bigSep_fin3]
  unfold lane
  iintro ⟨Hb, ⟨Hw0, Hi0⟩, ⟨Hw1, Hi1⟩, ⟨Hw2, Hi2⟩⟩
  isplitl [Hb]
  · iapply (block_join c fun k => filled c k f (pay (top R) (top C) k))
    rw [Ring.bigSep_fin3]
    iexact Hb
  isplitl [Hi0 Hi1 Hi2]
  · isplitl [Hi0]; · iexact Hi0
    isplitl [Hi1]; · iexact Hi1
    iexact Hi2
  isplitl [Hw0]; · iexact Hw0
  isplitl [Hw1]; · iexact Hw1
  iexact Hw2

/-! ## The kernel in the program -/

/-- What the kernel leaves in the output. -/
def left (c : Dev nD) : OutBuf F c := want (V m c main_arg1) (V m c main_arg2)

/-- The staged tables are the whole tables. -/
theorem iblk_row (c : Dev nD) (t : Fin cfg0.N) : (iblk m c 0 t : S50x384.Idx → Elt F .f32) = V m c main_arg1 := by
  obtain rfl := fin_N0 t
  refine funext fun x => congrArg (V m c main_arg1) (funext fun a => Fin.ext ?_)
  match a with
  | ⟨0, _⟩ => exact (by omega : 0 + 1 * (x 0).val = (x 0).val)
  | ⟨1, _⟩ => exact (by omega : 0 + 1 * (x 1).val = (x 1).val)
theorem iblk_col (c : Dev nD) (t : Fin cfg0.N) : (iblk m c 1 t : S50x384.Idx → Elt F .f32) = V m c main_arg2 := by
  obtain rfl := fin_N0 t
  refine funext fun x => congrArg (V m c main_arg2) (funext fun a => Fin.ext ?_)
  match a with
  | ⟨0, _⟩ => exact (by omega : 0 + 1 * (x 0).val = (x 0).val)
  | ⟨1, _⟩ => exact (by omega : 0 + 1 * (x 1).val = (x 1).val)

/-- The proof data: both windows keep their tables, and the output is at its launch contents before the one step and at
    `left` after it. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
  Φ t := if t.val = 0 then held c (V m c main_v0) else held c (left m c)
  q _ := fullShare
  owed _ := 0

/-- Each window's array is the table as launched. -/
theorem A_eq (c : Dev nD) (w : Fin cfg0.W) : (dats m 0 c).A w = V m c (Pipeline.arrRef spec0 w) := by dsimp only [dats]

/-- When the body runs, each window's buffer holds its table, and the body leaves it so. -/
theorem before_row (c : Dev nD) (t : Fin cfg0.N) (d) : (dats m 0 c).before 0 t d = iblk m c 0 t :=
  ((dats m 0 c).before_in_eq_fetched 0 rfl (fun _ => rfl) (fun _ _ _ => rfl) (fun _ => rfl) t d).trans rfl
theorem before_col (c : Dev nD) (t : Fin cfg0.N) (d) : (dats m 0 c).before 1 t d = iblk m c 1 t :=
  ((dats m 0 c).before_in_eq_fetched 1 rfl (fun _ => rfl) (fun _ _ _ => rfl) (fun _ => rfl) t d).trans rfl

/-- The body with what the program hands it takes it to what the program wants back. -/
theorem sound_body (c : Dev nD) (t : Fin cfg0.N) :
    iprop((dats m 0 c).Φ t.castSucc ∗ (dats m 0 c).owesAt () t.castSucc
        ∗ (∃ d, owns (c : Thread nD τ) (win0_0.stage (cfg0.slots t 0)) fullShare ((dats m 0 c).before 0 t d))
        ∗ (∃ d, owns (c : Thread nD τ) (win0_1.stage (cfg0.slots t 1)) fullShare ((dats m 0 c).before 1 t d)))
      ⊢ WP c (bodyAt0 t) fun _ => iprop((dats m 0 c).Φ t.succ ∗ (dats m 0 c).owesAt () t.succ
        ∗ owns (c : Thread nD τ) (win0_0.stage (cfg0.slots t 0)) fullShare ((dats m 0 c).after 0 t)
        ∗ owns (c : Thread nD τ) (win0_1.stage (cfg0.slots t 1)) fullShare ((dats m 0 c).after 1 t)) := by
  obtain rfl := fin_N0 t
  unfold bodyAt0
  rw [kernel_eq, show (dats m 0 c).Φ t0_0.castSucc = held c (V m c main_v0) from rfl,
    show (dats m 0 c).Φ t0_0.succ = held c (want (iblk m c 0 t0_0) (iblk m c 1 t0_0)) from by rw [iblk_row, iblk_col]; rfl]
  unfold Dat.owesAt Pipeline.owesWithin
  rw [show (dats m 0 c).owed t0_0.castSucc = 0 from rfl, show (dats m 0 c).owed t0_0.succ = 0 from rfl]
  iintro ⟨Hh, ⟨%W, -, HW⟩, ⟨%d0, H0⟩, ⟨%d1, H1⟩⟩
  ihave Hh := (lanes_of_held c (V m c main_v0)) $$ Hh
  icases Hh with ⟨%f, Hl⟩
  iapply (body_run c _ _ (iblk m c 0 t0_0) (iblk m c 1 t0_0) f (V m c main_v0) _)
  isplitl [Hl HW H0 H1]
  · isplitl [H0]; · rw [before_row]; iexact H0
    isplitl [H1]; · rw [before_col]; iexact H1
    isplitl [Hl]; · iexact Hl
    unfold settled
    iexists W
    iexact HW
  unfold settled
  iintro ⟨H0, H1, Hl, ⟨%W', HW⟩⟩
  isplitl [Hl]
  · iapply (held_of_lanes c (iblk m c 0 t0_0) (iblk m c 1 t0_0) f (V m c main_v0))
    iexact Hl
  isplitl [HW]
  · iexists W'
    isplitr
    · ipureintro
      exact fun _ _ => Or.inl trivial
    iexact HW
  isplitl [H0]; · iexact H0
  iexact H1

/-- The body the program runs at a step is the kernel's. -/
theorem defs₀_row (t : Fin cfg0.N) : defs₀ (F := F) .tc cfg0.body (cfg0.bodyArgs t (cfg0.slots t)) = bodyAt0 t := by
  unfold defs₀
  rw [Defs.onTc_tc]

/-- The body meets its obligation at every step. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option maxHeartbeats 800000 in
/-- The program is the kernel's step and then the transpose. -/
theorem main_around : Pipeline.HMainK (Ix := Unit) (Name := ℕ) (U := Pipeline.UD sig nD τ) (Lvl := ℕ) cfgs 0 defs₀ Variants.none m
    (main (F := F)) (V m) (fun _ => Pipeline.chain ([hostOps1].map StableHlo.seq)) :=
  Pipeline.hmain_around cfgs 0 defs₀ Variants.none m main [] [hostOps1] (by simp only [List.Forall]) (by simp only [List.Forall])
    main_chain

/-- What the buffers hold when the kernel has run. -/
def leftAt (c : Dev nD) (b : Ref sig .tc) : Buf (Elt F) ((c : Thread nD τ).loc b) :=
  if h : b = main_v0 then h ▸ left m c else V m c b

/-- In the output, what the kernel leaves there. -/
theorem leftAt_output (c : Dev nD) : leftAt m c main_v0 = left m c := by
  unfold leftAt
  rw [dif_pos rfl]

/-- The contents after the kernel, as the operations after it find them. -/
abbrev after (c : Dev nD) : Valuation τ sig (Elt F) :=
  Pipeline.withArrays spec0 c (Pipeline.withR (V0 m c) {main_v0} c (leftAt m c)) fun w => (dats m 0 c).arrAt w cfg0.N

set_option backward.isDefEq.respectTransparency.types false in
/-- Every run ends, with the windows' arrays and the other buffers as the kernel and the transpose leave them, and every
    semaphore at zero. -/
theorem run_main : θ_run defs (onTc (τ := τ) (main (F := F))) (s₀ m ρ) (fun r => (∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b) = StableHlo.after [hostOps1].flatten (after m c) (Proc.devRef .tc b))
      ∧ r.2.sem = fun _ => 0) :=
  Pipeline.θ_run_frame_dmaR_aroundV (Q' := _) (hQ' := fun _ h => ⟨fun c => h.1 c, h.2⟩) cfgs (dats m) (0 : Fin 1) launch0 osem defs₀ Variants.none osem_facts
    ∅ {main_v0} (by decide) (by decide) m ρ main (hbody := fun c => (body_obligation m c).loose)
    (hshare := fun c => (dats m 0 c).share_full fun _ => rfl) (howed := fun _ _ => rfl) (V₀ := V0 m) (opss := [hostOps1])
    (hsub := sfx_sub) (hfresh := sfx_fresh) (hkeep := sfx_keeps) (G := leftAt m) (hmain := main_around m) (hA := A_eq m)
    (hin := fun c => (held_eq c (V m) (V m)).1)
    (hout := fun c => (leftAt_output m c ▸ (held_eq c (V m) (leftAt m)).2 : held c (left m c) ⊢ _))

/-- The result: the wanted output with its channels moved in front of its rows and columns. -/
def result (R C : S50x384.Idx → Elt F .f32) : S16x768x32x32.Idx → Elt F .f32 :=
  transpose S16x768x32x32 [0, 3, 1, 2] (want R C) transposes_S16x32x32x768_S16x768x32x32_0_3_1_2

/-- The transpose puts the output, channels first, in the result buffer, -/
theorem after_result (c : Dev nD) :
    StableHlo.after [hostOps1].flatten (after m c) (Proc.devRef .tc main_v1) = result (V m c main_arg1) (V m c main_arg2) := by
  simp only [hostOps1, List.flatten_cons, List.flatten_nil, List.append_nil, StableHlo.after_cons, StableHlo.after_nil]
  rw [StableHlo.unary_result, after, Pipeline.withArrays_of_ne _ c _ _ main_v0 (by exact (by decide : ∀ w, Pipeline.arrRef spec0 w ≠ main_v0)),
    Pipeline.withR_of_mem _ _ c _ main_v0 (Finset.mem_singleton_self _), leftAt_output]
  rfl

/-- and changes no other; the unused argument is as launched. -/
theorem after_arg0 (c : Dev nD) :
    StableHlo.after [hostOps1].flatten (after m c) (Proc.devRef .tc main_arg0) = m ((c : Thread nD τ).loc main_arg0) := by
  simp only [hostOps1, List.flatten_cons, List.flatten_nil, List.append_nil, StableHlo.after_cons, StableHlo.after_nil]
  rw [StableHlo.unary_result_ne (h := (by decide : main_arg0 ≠ main_v1)), after,
    Pipeline.withArrays_of_ne _ c _ _ main_arg0 (by exact (by decide : ∀ w, Pipeline.arrRef spec0 w ≠ main_arg0)),
    Pipeline.withR_of_not_mem _ _ c _ main_arg0 (by decide)]
  rfl

/-- EVERY RUN of the program ends with `result` of the two tables in the result buffer, its three arguments as launched, and
    every semaphore at zero. -/
theorem run : θ_run defs (onTc (τ := τ) (main (F := F))) ⟨m, fun _ => 0, ρ⟩ (fun r => (∀ c : Dev nD,
      r.2.mem ((c.tc : Thread nD τ).loc main_v1) = result (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨((h.1 c).2 main_v1 (Pipeline.mem_restRefs_of main_v1 (by decide) (by decide))).trans (after_result m c),
      ((h.1 c).2 main_arg0 (Pipeline.mem_restRefs_of main_arg0 (by decide) (by decide))).trans (after_arg0 m c),
      ((h.1 c).1 0).trans (((dats m 0 c).arrAt_in 0 rfl _).trans (A_eq m c 0)),
      ((h.1 c).1 1).trans (((dats m 0 c).arrAt_in 1 rfl _).trans (A_eq m c 1))⟩, h.2⟩) (run_main m ρ)

end Cert.KernelIdeal.Bands

end
-- ==== Proof.Reference.lean ====
/-
  What the reference computes.

  The reference takes rows 0 to 31 of each table with a take that fills rows out of range, lays the column table's rows across
  the rows of the grid and the row table's across its columns, joins the two along the channels, moves the channels in front
  and repeats the whole for every batch row. No row taken is out of range, so entry (b, ch, h, w) of its result is the column
  table's (w, ch) for ch below 384 and the row table's (h, ch - 384) for the others.
-/
module

public import proofs.«01_k».proof.Proof.Gen.ReferenceIdeal.Run
public import Idealize.ShloMosaic.Lib.Routing.Ops
public import Idealize.ShloMosaic.Lib.Pipeline.Value
public import Idealize.ShloMosaic.Lib.ValueIdxCore
public import Idealize.ShloMosaic.Lib.Quiescent

@[expose] public section

set_option maxRecDepth 16384

noncomputable section

namespace Cert.ReferenceIdeal.Rows

open Cert.ReferenceIdeal Cert.ReferenceIdeal.Gen
open Idealize.ShloMosaic Idealize.ShloMosaic.TcCoe Idealize.SL.Sem
open Idealize.ShloMosaic.ValueIdx (ix1 ix2 ix3 ix4 eq_ix2)

variable {F : FTy → Type} [FloatOps F]

/-! ## The rows taken -/

/-- The row numbers 0 to 31, negative ones counted from the end. -/
def rowNumber : IVec S32x1 32 :=
  broadcastInDim S32x1 ![0] bcast_S32_S32x1_0 (select (cmpi .slt (iotaInDim S32 32 0) (broadcastInDim S32 ![] bcast_S_S32 (constantI S_ 32 0#32)))
    (addi (iotaInDim S32 32 0) (broadcastInDim S32 ![] bcast_S_S32 (constantI S_ 32 50#32))) (iotaInDim S32 32 0))

/-- Which of them are rows of the table. -/
def inRange : IVec S32 1 :=
  Host.reduce IntOp.andi (andi (cmpi .sge rowNumber (broadcastInDim S32x1 ![] bcast_S_S32x1 (constantI S_ 32 0#32)))
    (cmpi .sle rowNumber (broadcastInDim S32x1 ![0, 1] bcast_S1x1_S32x1_0_1 (broadcastInDim S1x1 ![1] bcast_S1_S1x1_1 (constantI S1 32 49#32)))))
    (constantI S_ 1 1#1) reducesTo_S32x1_S32_d1 h_S_

/-- The rows taken, and the filling where one is out of range. -/
def taken (X : S50x384.Idx → Elt F .f32) : S32x384.Idx → Elt F .f32 :=
  select (broadcastInDim S32x384 ![0] bcast_S32_S32x384_0 inRange)
    (Host.gather gather_S50x384_S32x1_S32x384_1_0_n_n_0_1_1384 X rowNumber)
    (broadcastInDim S32x384 ![] bcast_S_S32x384 (constant S_ .f32 0x7FC00000#32))

/-- Row number `a` is `a`. -/
theorem rowNumber_apply : ∀ a : Fin 32, rowNumber (ix2 a (0 : Fin 1)) = BitVec.ofNat 32 a.val := by decide +kernel

/-- Every row number is in range. -/
theorem inRange_apply : ∀ a : Fin 32, inRange (ix1 a) = 1#1 := by decide +kernel

/-- Row `a` taken is the table's row `a`. -/
theorem taken_apply (X : S50x384.Idx → Elt F .f32) (a : Fin 32) (b : Fin 384) :
    taken X (ix2 a b) = X (ix2 ⟨a.val, a.isLt.trans (by decide)⟩ b) := by
  have hm : broadcastInDim S32x384 ![0] bcast_S32_S32x384_0 inRange (ix2 a b) = 1#1 :=
    (broadcastInDim_apply _ _ _ (ix2 a b) (ix1 a) fun d => by match d with | ⟨0, _⟩ => rfl).trans (inRange_apply a)
  have hs : taken X (ix2 a b) = Host.gather gather_S50x384_S32x1_S32x384_1_0_n_n_0_1_1384 X rowNumber (ix2 a b) :=
    if_pos hm
  exact hs.trans (Routing.gather_row gather_S50x384_S32x1_S32x384_1_0_n_n_0_1_1384 rfl rfl rfl rfl rfl X rowNumber a b
    ⟨a.val, a.isLt.trans (by decide)⟩ (rowNumber_apply a) (by decide))

/-! ## The grid -/

/-- The grid of positions, channels last: the column rows taken across it and the row rows taken down it, joined. -/
def grid (row col : S50x384.Idx → Elt F .f32) : S32x32x768.Idx → Elt F .f32 :=
  concatenate S32x32x768 2
    [⟨S32x32x384, broadcastInDim S32x32x384 ![0, 1, 2] bcast_S1x32x384_S32x32x384_0_1_2
        (broadcastInDim S1x32x384 ![1, 2] bcast_S32x384_S1x32x384_1_2 (taken col))⟩,
      ⟨S32x32x384, broadcastInDim S32x32x384 ![0, 1, 2] bcast_S32x1x384_S32x32x384_0_1_2
        (broadcastInDim S32x1x384 ![0, 2] bcast_S32x384_S32x1x384_0_2 (taken row))⟩]
    concatenates_S32x32x384_S32x32x384_S32x32x768_d2

/-- Its first 384 channels are the column table's. -/
theorem grid_col (row col : S50x384.Idx → Elt F .f32) (h w : Fin 32) (ch : Fin 768) (k : Fin 384) (hk : k.val = ch.val) :
    grid row col (ix3 h w ch) = col (ix2 ⟨w.val, w.isLt.trans (by decide)⟩ k) := by
  refine (concatenate_pair_apply_left (t := S32x32x768) (s₁ := S32x32x384) (s₂ := S32x32x384) 2 _ _ _ (ix3 h w ch) rfl (ix3 h w k) fun d => ?_).trans ?_
  · match d with
    | ⟨0, _⟩ => rfl
    | ⟨1, _⟩ => rfl
    | ⟨2, _⟩ => exact hk
  refine (broadcastInDim_apply _ _ _ _ (ix3 (0 : Fin 1) w k) fun d => ?_).trans ?_
  · match d with
    | ⟨0, _⟩ => rfl
    | ⟨1, _⟩ => rfl
    | ⟨2, _⟩ => rfl
  refine (broadcastInDim_apply _ _ _ _ (ix2 w k) fun d => ?_).trans (taken_apply col w k)
  match d with
  | ⟨0, _⟩ => rfl
  | ⟨1, _⟩ => rfl

/-- Its last 384 channels are the row table's. -/
theorem grid_row (row col : S50x384.Idx → Elt F .f32) (h w : Fin 32) (ch : Fin 768) (k : Fin 384) (hk : k.val + 384 = ch.val) :
    grid row col (ix3 h w ch) = row (ix2 ⟨h.val, h.isLt.trans (by decide)⟩ k) := by
  refine (concatenate_pair_apply_right (t := S32x32x768) (s₁ := S32x32x384) (s₂ := S32x32x384) 2 _ _ _ (ix3 h w ch) rfl rfl (ix3 h w k)
    (fun d hd => ?_) hk).trans ?_
  · match d with
    | ⟨0, _⟩ => rfl
    | ⟨1, _⟩ => rfl
    | ⟨2, _⟩ => exact absurd rfl hd
  refine (broadcastInDim_apply _ _ _ _ (ix3 h (0 : Fin 1) k) fun d => ?_).trans ?_
  · match d with
    | ⟨0, _⟩ => rfl
    | ⟨1, _⟩ => rfl
    | ⟨2, _⟩ => rfl
  refine (broadcastInDim_apply _ _ _ _ (ix2 h k) fun d => ?_).trans (taken_apply row h k)
  match d with
  | ⟨0, _⟩ => rfl
  | ⟨1, _⟩ => rfl

/-! ## The result -/

/-- The reference's result: the grid, channels in front, for every batch row. -/
def result (row col : S50x384.Idx → Elt F .f32) : S16x768x32x32.Idx → Elt F .f32 :=
  broadcastInDim S16x768x32x32 ![0, 1, 2, 3] bcast_S1x768x32x32_S16x768x32x32_0_1_2_3
    (broadcastInDim S1x768x32x32 ![1, 2, 3] bcast_S768x32x32_S1x768x32x32_1_2_3
      (transpose S768x32x32 [2, 0, 1] (grid row col) transposes_S32x32x768_S768x32x32_2_0_1))

/-- Entry (b, ch, h, w) of the result is the grid's (h, w, ch). -/
theorem result_apply (row col : S50x384.Idx → Elt F .f32) (b : Fin 16) (ch : Fin 768) (h w : Fin 32) :
    result row col (ix4 b ch h w) = grid row col (ix3 h w ch) := by
  refine (broadcastInDim_apply _ _ _ _ (ix4 (0 : Fin 1) ch h w) fun d => ?_).trans ?_
  · match d with
    | ⟨0, _⟩ => rfl
    | ⟨1, _⟩ => rfl
    | ⟨2, _⟩ => rfl
    | ⟨3, _⟩ => rfl
  refine (broadcastInDim_apply _ _ _ _ (ix3 ch h w) fun d => ?_).trans ?_
  · match d with
    | ⟨0, _⟩ => rfl
    | ⟨1, _⟩ => rfl
    | ⟨2, _⟩ => rfl
  refine transpose_apply _ _ _ _ (ix3 h w ch) fun d => ?_
  match d with
  | ⟨0, _⟩ => rfl
  | ⟨1, _⟩ => rfl
  | ⟨2, _⟩ => rfl

/-- EVERY RUN of the reference ends with `result` of the two tables in its result buffer, its three arguments as launched, and
    every semaphore at zero: it has none. -/
theorem run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_v11) = result (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨h, sem_eq_zero_of_no_sems (by decide) r.2⟩) (Value.run m ρ)

end Cert.ReferenceIdeal.Rows

end
-- ==== Proof.Same.lean ====
/-
  The kernel's result and the reference's are one function of the two tables.

  Entry (b, ch, h, w) of either is the column table's (w, ch) for ch below 384 and the row table's (h, ch - 384) for the
  others. Both only move entries of the tables, so this holds for any kind of float.
-/
module

public import proofs.«01_k».proof.Proof.Region
public import proofs.«01_k».proof.Proof.Reference

@[expose] public section

noncomputable section

namespace Cert.Proof

open Idealize.ShloMosaic
open Idealize.ShloMosaic.ValueIdx (ix2 ix3 ix4 eq_ix4)

variable {F : FTy → Type} [FloatOps F]

/-- Entry (b, ch, h, w) of the kernel's result is the wanted output's (b, h, w, ch). -/
theorem kernel_apply (row col : Cert.KernelIdeal.S50x384.Idx → Elt F .f32) (b : Fin 16) (ch : Fin 768) (h w : Fin 32) :
    Cert.KernelIdeal.Bands.result row col (ix4 b ch h w) = Cert.KernelIdeal.Bands.want row col (ix4 b h w ch) := by
  refine transpose_apply _ _ _ _ (ix4 b h w ch) fun d => ?_
  match d with
  | ⟨0, _⟩ => rfl
  | ⟨1, _⟩ => rfl
  | ⟨2, _⟩ => rfl
  | ⟨3, _⟩ => rfl

/-- The two results are equal. -/
theorem result_eq (row col : Cert.KernelIdeal.S50x384.Idx → Elt F .f32) :
    Cert.KernelIdeal.Bands.result row col = Cert.ReferenceIdeal.Rows.result row col := by
  funext y
  obtain ⟨b, ch, h, w, rfl⟩ : ∃ (b : Fin 16) (ch : Fin 768) (h w : Fin 32), y = ix4 b ch h w := ⟨y 0, y 1, y 2, y 3, eq_ix4 y⟩
  rw [kernel_apply, Cert.ReferenceIdeal.Rows.result_apply]
  unfold Cert.KernelIdeal.Bands.want
  by_cases hc : ch.val < 384
  · exact (dif_pos hc).trans (Cert.ReferenceIdeal.Rows.grid_col row col h w ch ⟨ch.val, hc⟩ rfl).symm
  · exact (dif_neg hc).trans (Cert.ReferenceIdeal.Rows.grid_row row col h w ch ⟨ch.val - 384, by omega⟩
      (Nat.sub_add_cancel (Nat.le_of_not_lt hc))).symm

end Cert.Proof

end
-- ==== Proof.Bits.lean ====
/-
  The program and its idealization are one text.

  Nothing was replaced when the kernel was idealized, so the two programs are one program printed twice, each under a name of
  its own. What was proved of one, for any kind of float, holds of the other.
-/
module

public import proofs.«01_k».proof.Proof.Region
public import proofs.«01_k».proof.Proof.Gen.Kernel

@[expose] public section

set_option maxRecDepth 16384

noncomputable section

namespace Cert.Proof

open Idealize.ShloMosaic Idealize.ShloMosaic.TcCoe Idealize.SL.Sem

variable {F : FTy → Type} [FloatOps F]

/-- The two kernels are one. -/
theorem kernel_same : @Cert.Kernel.cc0__pos_kernel F _ = @Cert.KernelIdeal.cc0__pos_kernel F _ := rfl

/-- The two tables of kernels are one. -/
theorem kernels_same : Cert.Kernel.defs₀ (F := F) = Cert.KernelIdeal.defs₀ (F := F) := by
  unfold Cert.Kernel.defs₀ Cert.KernelIdeal.defs₀
  refine congrArg (Defs.onTc (nD := Cert.KernelIdeal.nD) (τ := Cert.KernelIdeal.τ) (sig := Cert.KernelIdeal.sig)
    (Λ := Cert.KernelIdeal.Λ₀)) (funext fun l => funext fun a => ?_)
  match l, a with
  | 0, (t, s) => rfl

/-- The two programs' bodies are one. -/
theorem bodies_same : Cert.Kernel.defs (F := F) = Cert.KernelIdeal.defs (F := F) :=
  congrArg (Pipeline.defs (Cert.KernelIdeal.pcfgs (F := F))) kernels_same

/-- The two main programs are one. -/
theorem main_same : Cert.Kernel.main (F := F) = Cert.KernelIdeal.main (F := F) := rfl

/-- EVERY RUN of the program ends with its three arguments as launched and every semaphore at zero. -/
theorem run_program (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0) := by
  have h := (θ_run (Cert.KernelIdeal.defs (F := F)) _ _).mono (fun r h => And.intro (fun c => (h.1 c).2) h.2) (Cert.KernelIdeal.Bands.run (F := F) m ρ)
  rw [← bodies_same] at h
  exact h

end Cert.Proof

end
-- ==== Proof.lean ====
/- The five claims, assembled from the modules under `Proof/`: `Region` runs the idealized kernel and says what it
   returns, `Bits` carries its frame to the kernel itself, `Reference` runs the reference, and `Same` equates the two
   results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Same
public import proofs.«01_k».proof.Proof.Bits
public import Idealize.ShloMosaic.Adequacy
public import Idealize.ShloMosaic.Init

@[expose] public section

noncomputable section

namespace Cert.Proof

open Idealize.ShloMosaic Idealize.SL.Sem Cert.Kernel

/-- The kernel terminates without fault, its three arguments end as they were launched, and every semaphore ends at
zero. -/
theorem program_frame : Cert.quiescent_Kernel := fun m g _ => run_program (F := Bits) m g

/-- The same of the kernel over the extended reals. -/
theorem ideal_frame : Cert.quiescent_KernelIdeal := fun m g _ =>
  (θ_run (Cert.KernelIdeal.defs (F := Ideal)) _ _).mono (fun r h => ⟨fun c => (h.1 c).2, h.2⟩) (Cert.KernelIdeal.Bands.run (F := Ideal) m g)

/-- The same of the reference over the extended reals. -/
theorem reference_frame : Cert.quiescent_ReferenceIdeal := fun m g _ =>
  (θ_run (Cert.ReferenceIdeal.defs (F := Ideal)) _ _).mono (fun r h => ⟨fun c => (h.1 c).2, h.2⟩) (Cert.ReferenceIdeal.Rows.run (F := Ideal) m g)

/-- From equal arguments the kernel and the reference return the same array over the extended reals: the one that
`Bands.result` states from the two tables. -/
theorem equal_results : Cert.algebraic_KernelIdeal_ReferenceIdeal := fun m g m' g' _ hm =>
  ⟨fun c => Cert.KernelIdeal.Bands.result (F := Ideal) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    (θ_run (Cert.KernelIdeal.defs (F := Ideal)) _ _).mono (fun r h => h.1) (Cert.KernelIdeal.Bands.run (F := Ideal) m g),
    (θ_run (Cert.ReferenceIdeal.defs (F := Ideal)) _ _).mono (fun r h c =>
      ⟨(h.1 c).1.trans (by rw [(hm c).2.1, (hm c).2.2]; exact (result_eq _ _).symm), (h.1 c).2⟩) (Cert.ReferenceIdeal.Rows.run (F := Ideal) m' g')⟩

/-- All five claims; `preserves` has no rewritten operation to justify. -/
theorem claim : Cert.Claim := ⟨Cert.Kernel.Gen.facts, Cert.KernelIdeal.Gen.facts, Cert.ReferenceIdeal.Gen.facts,
  program_frame, ideal_frame, reference_frame, trivial, equal_results⟩

end Cert.Proof

end
